-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x12544 : Shape := ⟨3, ![3, 4096, 12544]⟩
abbrev S3x4096x1 : Shape := ⟨3, ![3, 4096, 1]⟩
abbrev S6784x12544 : Shape := ⟨2, ![6784, 12544]⟩
abbrev S6784 : Shape := ⟨1, ![6784]⟩
abbrev S12288x12544 : Shape := ⟨2, ![12288, 12544]⟩
abbrev S12288x1 : Shape := ⟨2, ![12288, 1]⟩
abbrev S1x6784 : Shape := ⟨2, ![1, 6784]⟩
abbrev S12288x6784 : Shape := ⟨2, ![12288, 6784]⟩
abbrev S1024x12544 : Shape := ⟨2, ![1024, 12544]⟩
abbrev S1024x1 : Shape := ⟨2, ![1024, 1]⟩
abbrev S768x12544 : Shape := ⟨2, ![768, 12544]⟩
abbrev S1x768 : Shape := ⟨2, ![1, 768]⟩
abbrev S1024x768 : Shape := ⟨2, ![1024, 768]⟩
abbrev S3x4096x6784 : Shape := ⟨3, ![3, 4096, 6784]⟩

abbrev nBuf : Space → Nat
  | .hbm => 9
  | .vmem => 10
  | .smem => 0
  | _ => 0

abbrev bufTy : (tb : Table) → Fin (tcTables nBuf tb) → BufTy
  | .hbm, ⟨0, _⟩ => ⟨S3x4096x12544, .fp8e4m3⟩
  | .hbm, ⟨1, _⟩ => ⟨S3x4096x1, .f32⟩
  | .hbm, ⟨2, _⟩ => ⟨S6784x12544, .fp8e4m3⟩
  | .hbm, ⟨3, _⟩ => ⟨S6784, .f32⟩
  | .hbm, ⟨4, _⟩ => ⟨S12288x12544, .fp8e4m3⟩
  | .hbm, ⟨5, _⟩ => ⟨S12288x1, .f32⟩
  | .hbm, ⟨6, _⟩ => ⟨S1x6784, .f32⟩
  | .hbm, ⟨7, _⟩ => ⟨S12288x6784, .bf16⟩
  | .hbm, ⟨8, _⟩ => ⟨S3x4096x6784, .bf16⟩
  | .local _ .vmem, ⟨0, _⟩ => ⟨S1024x12544, .fp8e4m3⟩
  | .local _ .vmem, ⟨1, _⟩ => ⟨S1024x12544, .fp8e4m3⟩
  | .local _ .vmem, ⟨2, _⟩ => ⟨S1024x1, .f32⟩
  | .local _ .vmem, ⟨3, _⟩ => ⟨S1024x1, .f32⟩
  | .local _ .vmem, ⟨4, _⟩ => ⟨S768x12544, .fp8e4m3⟩
  | .local _ .vmem, ⟨5, _⟩ => ⟨S768x12544, .fp8e4m3⟩
  | .local _ .vmem, ⟨6, _⟩ => ⟨S1x768, .f32⟩
  | .local _ .vmem, ⟨7, _⟩ => ⟨S1x768, .f32⟩
  | .local _ .vmem, ⟨8, _⟩ => ⟨S1024x768, .bf16⟩
  | .local _ .vmem, ⟨9, _⟩ => ⟨S1024x768, .bf16⟩
  | _, _ => ⟨S3x4096x12544, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x12544 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x12544 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S3x4096x12544 : Shape := ⟨3, ![3, 4096, 12544]⟩
abbrev S3x4096x1 : Shape := ⟨3, ![3, 4096, 1]⟩
abbrev S6784x12544 : Shape := ⟨2, ![6784, 12544]⟩
abbrev S6784 : Shape := ⟨1, ![6784]⟩
abbrev S3x4096x6784 : Shape := ⟨3, ![3, 4096, 6784]⟩
abbrev S1x1x6784 : Shape := ⟨3, ![1, 1, 6784]⟩

abbrev nBuf : Space → Nat
  | .hbm => 5
  | .vmem => 5
  | .smem => 0
  | _ => 0

abbrev bufTy : (tb : Table) → Fin (tcTables nBuf tb) → BufTy
  | .hbm, ⟨0, _⟩ => ⟨S3x4096x12544, .fp8e4m3⟩
  | .hbm, ⟨1, _⟩ => ⟨S3x4096x1, .f32⟩
  | .hbm, ⟨2, _⟩ => ⟨S6784x12544, .fp8e4m3⟩
  | .hbm, ⟨3, _⟩ => ⟨S6784, .f32⟩
  | .hbm, ⟨4, _⟩ => ⟨S3x4096x6784, .bf16⟩
  | .local _ .vmem, ⟨0, _⟩ => ⟨S3x4096x12544, .fp8e4m3⟩
  | .local _ .vmem, ⟨1, _⟩ => ⟨S3x4096x1, .f32⟩
  | .local _ .vmem, ⟨2, _⟩ => ⟨S6784x12544, .fp8e4m3⟩
  | .local _ .vmem, ⟨3, _⟩ => ⟨S6784, .f32⟩
  | .local _ .vmem, ⟨4, _⟩ => ⟨S3x4096x6784, .bf16⟩
  | _, _ => ⟨S3x4096x12544, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x4096x12544 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6784x12544 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6784 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4096x6784 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelFrame.lean ====
/-
  The kernel program over the bit-exact values runs to an end and leaves its arguments as they were.

  The last block of columns overhangs the weight array, so the tail of a staging buffer holds words nothing names, and
  over the bit-exact values the product of two whole blocks may depend on them. This module therefore names the contents
  of no staging buffer: every window is forgotten. What remains is that each point's body takes five staging buffers at any
  contents and gives them back at some contents, and that no argument array is written.
-/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 1000000 in
/-- The body on five whole staging buffers, each at any contents, ends and gives each back at some contents. -/
theorem sound_kernel (c : Dev nD) (E : Set ℕ) (i : grid0.Coords)
    (arg2 : Memref sig .tc .vmem S1024x12544 .fp8e4m3) (harg2 : arg2.IsWhole)
    (arg3 : Memref sig .tc .vmem S1024x1 .f32) (harg3 : arg3.IsWhole)
    (arg4 : Memref sig .tc .vmem S768x12544 .fp8e4m3) (harg4 : arg4.IsWhole)
    (arg5 : Memref sig .tc .vmem S1x768 .f32) (harg5 : arg5.IsWhole)
    (arg6 : Memref sig .tc .vmem S1024x768 .bf16) (harg6 : arg6.IsWhole) (K : PUnit → sProp 𝕄) :
    iprop((∃ X, owns (c : Thread nD τ) arg2 fullShare X) ∗ (∃ X, owns (c : Thread nD τ) arg3 fullShare X)
        ∗ (∃ X, owns (c : Thread nD τ) arg4 fullShare X) ∗ (∃ X, owns (c : Thread nD τ) arg5 fullShare X)
        ∗ (∃ X, owns (c : Thread nD τ) arg6 fullShare X)
        ∗ (iprop((∃ X, owns (c : Thread nD τ) arg2 fullShare X) ∗ (∃ X, owns (c : Thread nD τ) arg3 fullShare X)
            ∗ (∃ X, owns (c : Thread nD τ) arg4 fullShare X) ∗ (∃ X, owns (c : Thread nD τ) arg5 fullShare X)
            ∗ (∃ X, owns (c : Thread nD τ) arg6 fullShare X)) -∗ K ⟨⟩))
      ⊢ wp frame (wpE (defs₀ (F := F)) Variants.none c none) E
          (cc0__linear_kernel i arg2 harg2 arg3 harg3 arg4 harg4 arg5 harg5 arg6 harg6) K := by
  simp only [cc0__linear_kernel_eq_skeleton]; unfold cc0__linear_kernel_skel
  unfold owns
  iintro ⟨⟨%X0, %f0, -, H0⟩, ⟨%X1, %f1, -, H1⟩, ⟨%X2, %f2, -, H2⟩, ⟨%X3, %f3, -, H3⟩, ⟨%X4, %f4, -, H4⟩, Hk⟩
  sl_exec
  sl_step
  iapply Hk
  isplitl [H0]
  · iexists _; iexists _; isplitr
    swap; · iexact H0
    ipureintro; rfl
  isplitl [H1]
  · iexists _; iexists _; isplitr
    swap; · iexact H1
    ipureintro; rfl
  isplitl [H2]
  · iexists _; iexists _; isplitr
    swap; · iexact H2
    ipureintro; rfl
  isplitl [H3]
  · iexists _; iexists _; isplitr
    swap; · iexact H3
    ipureintro; rfl
  iexists _; iexists _; isplitr
  swap; · iexact H4
  ipureintro; rfl

/-! ## The proof data -/

/-- The proof data: the arrays as the region finds them, and (every window being forgotten) a filler word for what the
    body leaves, which nothing reads. -/
def dats (_ : Fin 1) (c : Dev nD) : Dat τ (Elt F) Unit ℕ (UR sig nD τ) ℕ cfg0 c where
  A w := V m c (Pipeline.arrRef spec0 w)
  after w t := fun _ => Classical.choice inferInstance
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- Every window is forgotten. -/
abbrev fgt : Fin cfg0.W → Bool := fun _ => true

/-- The body table's row at point `t` is the body at that point's staging buffers. -/
theorem defs₀_row (t : Fin cfg0.N) :
    defs₀ (F := F) .tc cfg0.body (cfg0.bodyArgs t (cfg0.slots t)) = bodyAt0 t := by
  unfold defs₀; rw [Defs.onTc_tc]

/-- What a point's body is given, and gives back: the invariant, what the core owes, and the five staging buffers, each at
    some contents. -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X))

/-- Every point's body takes the five staging buffers at any contents and gives them back. -/
theorem sound_body (c : Dev nD) (t : Fin cfg0.N) :
    bodyPre m c t ⊢ wp frame (wpE (defs₀ (F := F)) Variants.none c none) Set.univ (bodyAt0 t) (fun _ => bodyPre m c t) := by
  unfold bodyPre bodyAt0
  iintro ⟨HΦ, Ho, H0, H1, H2, H3, H4⟩
  iapply (sound_kernel c Set.univ _ _ _ _ _ _ _ _ _ _ _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation with every window forgotten. -/
theorem body_obligation (c : Dev nD) :
    BodyObligationLoose (dats (F := F) m 0 c) (defs₀ (F := F)) Variants.none () Set.univ fgt := fun t => by
  rw [bigSep_W0, defs₀_row]
  exact triple_restated (sound_body m c t) rfl .rfl fun _ => .rfl

/-! ## The run -/

/-- The one line after the region writes the result's buffer and no other. -/
theorem sfx_writes : ∀ ops ∈ ([hostOps1] : List (List (HloOp τ sig (Elt F)))), ∀ op ∈ ops,
    ∀ b : Ref sig .tc, Proc.devRef .tc b ∈ op.writes → b ∈ ({main_v4} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]
  by_contra hne
  exact StableHlo.devRef_ne_of_ne hne hb

set_option backward.isDefEq.respectTransparency.types false in
set_option maxHeartbeats 800000 in
/-- The launch: every execution ends, with every input array at its contents on entry, every other array but the result's
    as the region found it, and every semaphore counter at zero. -/
theorem run_main : θ_run defs (onTc (τ := τ) (main (F := F))) (s₀ m ρ)
    (fun r => RDat.FramePostR cfg0 (fun c => (dats m 0 c).toRForget fgt) {main_v4} (V m) r ∧ r.2.sem = fun _ => 0) :=
  Pipeline.θ_run_frame_around_T_forget (Q' := _) cfgs (dats m) (0 : Fin 1) launch0 defs₀ Variants.none fgt {main_v4} m ρ main
    (hbody := fun c => body_obligation m c) (hshare := fun c => (dats m 0 c).share_full fun _ => rfl)
    (howed := fun _ _ => rfl) (V₀ := V0 m) (opss := [hostOps1]) (hsub := sfx_sub) (hfresh := sfx_fresh)
    (hkeep := sfx_keeps) (hT := sfx_writes) (hmain := hmain m Variants.none) (hA := A_eq m) (hΦ := fun _ _ => rfl)
    (hQ' := fun _ h => h)

/-- Every execution ends with the four arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, ?_, ?_, ?_⟩, h.2⟩) (run_main m ρ)
  · exact ((h.1 c).2 main_arg0 (Finset.mem_sdiff.mpr ⟨Pipeline.mem_restRefs_of main_arg0 (by decide) (by decide), by decide⟩)).trans
      (V_main_arg0 m c)
  · exact ((h.1 c).2 main_arg1 (Finset.mem_sdiff.mpr ⟨Pipeline.mem_restRefs_of main_arg1 (by decide) (by decide), by decide⟩)).trans
      (V_main_arg1 m c)
  · exact (RDat.FramePostR.arr_in h.1 c 2 rfl).trans ((A_eq m c 2).trans (V_main_arg2 m c))
  · exact ((h.1 c).2 main_arg3 (Finset.mem_sdiff.mpr ⟨Pipeline.mem_restRefs_of main_arg3 (by decide) (by decide), by decide⟩)).trans
      (V_main_arg3 m c)

end Cert.KernelFrame

end
-- ==== Proof.Block.lean ====
/-
  What one block of the kernel computes over the extended reals, element by element.
-/
module

public import proofs.«01_k».proof.Proof.Gen.KernelIdeal.Skeleton
public import Idealize.ShloMosaic.Lib.Pointwise

@[expose] public section

noncomputable section

namespace Cert.KernelValue

open Cert.KernelIdeal Cert.KernelIdeal.Gen
open Idealize.ShloMosaic Idealize.SL.Sem

/-- Element (r, n) of what the body stores is the product of row r of the left block with row n of the right block, scaled by
    the row's scale and then by the column's. -/
theorem pay_apply (x : Vec Ideal S1024x12544 .fp8e4m3) (w : Vec Ideal S768x12544 .fp8e4m3)
    (xs : Vec Ideal S1024x1 .f32) (ws : Vec Ideal S1x768 .f32) (r : Fin 1024) (n : Fin 768) :
    k0_pay1 (F := Ideal) x w xs ws (ix2 r n)
      = (∑ k : Fin 12544, x (ix2 r k) * w (ix2 n k)) * xs (ix2 r 0) * ws (ix2 0 n) := by
  unfold k0_pay1
  pointwise

/-- The same at any index. -/
theorem pay_at (x : Vec Ideal S1024x12544 .fp8e4m3) (w : Vec Ideal S768x12544 .fp8e4m3)
    (xs : Vec Ideal S1024x1 .f32) (ws : Vec Ideal S1x768 .f32) (q : S1024x768.Idx) :
    k0_pay1 (F := Ideal) x w xs ws q
      = (∑ k : Fin 12544, x (ix2 (q 0) k) * w (ix2 (q 1) k)) * xs (ix2 (q 0) 0) * ws (ix2 0 (q 1)) := by
  rw [eq_ix2 q]
  exact pay_apply x w xs ws (q 0) (q 1)

end Cert.KernelValue

end
-- ==== Proof.IdealRun.lean ====
/-
  The kernel over the extended reals: what the pipeline's arrays hold when it has run.

  The last block of columns overhangs the weight array, the column scales and the result: their staging buffers then hold
  words nothing names past the array's end. Over the extended reals a column of a block's product reads only its own row of
  the weight block, so the columns inside the array do not depend on those words, and the write-back moves no other column.
-/
module

public import proofs.«01_k».proof.Proof.Gen.KernelIdeal.Frame
public import proofs.«01_k».proof.Proof.Block
public import Idealize.ShloMosaic.Lib.Claim
public import Idealize.ShloMosaic.Lib.Pipeline.ValueKit

@[expose] public section

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The value -/

/-- Element (r, n) of the scaled product: row r of `x` times row n of `w`, scaled by the row's scale and the column's. -/
def G (x : S12288x12544.Idx → EReal) (xs : S12288x1.Idx → EReal) (w : S6784x12544.Idx → EReal) (ws : S1x6784.Idx → EReal) :
    S12288x6784.Idx → EReal := fun i =>
  (∑ k : Fin 12544, x (ix2 (i 0) k) * w (ix2 (i 1) k)) * xs (ix2 (i 0) 0) * ws (ix2 0 (i 1))

/-- The scaled product of the arrays the region finds. -/
def GV (c : Dev nD) : Buf (Elt Ideal) ((c : Thread nD τ).loc main_v3) :=
  G (V m c main_v0) (V m c main_v1) (V m c main_arg2) (V m c main_v2)

/-- Its block at point `t`, on the columns inside the array. -/
def gblk (c : Dev nD) (t : Fin cfg0.N) : (win0_4.xblock (grid0.coords t)).Idx → EReal :=
  (win0_4.blk t).view.read (Elt Ideal) (GV m c)

/-! ## The blocks at coordinates -/

/-- A row block's index is the first grid coordinate, a column block's the second; every block spans the contracted axis. -/
theorem idx_0 : ∀ t : Fin cfg0.N, win0_0.index t = ![win0_4.index t 0, 0] := (by decide +kernel : ∀ t : Fin grid0.N, _)
theorem idx_1 : ∀ t : Fin cfg0.N, win0_1.index t = ![win0_4.index t 0, 0] := (by decide +kernel : ∀ t : Fin grid0.N, _)
theorem idx_2 : ∀ t : Fin cfg0.N, win0_2.index t = ![win0_4.index t 1, 0] := (by decide +kernel : ∀ t : Fin grid0.N, _)
theorem idx_3 : ∀ t : Fin cfg0.N, win0_3.index t = ![0, win0_4.index t 1] := (by decide +kernel : ∀ t : Fin grid0.N, _)

/-- The weight block's rows and the scale block's columns inside their arrays are as many as the result block's columns. -/
theorem xsize_2 : ∀ t : Fin cfg0.N, win0_2.xsize (grid0.coords t) = ![win0_4.xsize (grid0.coords t) 1, 12544] :=
  (by decide +kernel : ∀ t : Fin grid0.N, _)
theorem xsize_3 : ∀ t : Fin cfg0.N, win0_3.xsize (grid0.coords t) = ![1, win0_4.xsize (grid0.coords t) 1] :=
  (by decide +kernel : ∀ t : Fin grid0.N, _)

/-- A filled block at an index inside the moved part reads the filling there. -/
theorem fill_at {S : RefSig} {Gr : Pipeline.Grid} (w : Window S Gr) {α : Type} (i : Gr.Coords) (d : w.block.Idx → α)
    (g : (w.xblock i).Idx → α) (j : w.block.Idx) (h : ∀ a, (j a).val < w.xsize i a) :
    w.fill i d g j = g (fun a => ⟨(j a).val, h a⟩) :=
  w.fill_xinj i d g (fun a => ⟨(j a).val, h a⟩)

/-- A block whose index is 0 begins at 0. -/
theorem at_zero (n k : Nat) : 0 * n + k = k := by omega

/-- An input's block at an index reads its array at the place the block's index and size say. -/
theorem iblk_0 (c : Dev nD) (t : Fin cfg0.N) (q : (win0_0.xblock (grid0.coords t)).Idx) (j : S12288x12544.Idx)
    (h : ∀ a, win0_0.index t a * win0_0.size a + (q a).val = (j a).val) : iblk m c 0 t q = V m c main_v0 j :=
  congrArg (V m c main_v0) (funext fun a => Fin.ext ((win0_0.rect_emb_val t q a).trans (h a)))
theorem iblk_1 (c : Dev nD) (t : Fin cfg0.N) (q : (win0_1.xblock (grid0.coords t)).Idx) (j : S12288x1.Idx)
    (h : ∀ a, win0_1.index t a * win0_1.size a + (q a).val = (j a).val) : iblk m c 1 t q = V m c main_v1 j :=
  congrArg (V m c main_v1) (funext fun a => Fin.ext ((win0_1.rect_emb_val t q a).trans (h a)))

/-- A row of the weight block inside the array, at a column, whatever fills the block out past the array's end. -/
theorem fill_2 (c : Dev nD) (t : Fin cfg0.N) (d : S768x12544.Idx → EReal) (q : S768x12544.Idx) (j : S6784x12544.Idx)
    (hq : (q 0).val < win0_4.xsize (grid0.coords t) 1) (h0 : win0_4.index t 1 * 768 + (q 0).val = (j 0).val)
    (h1 : (q 1).val = (j 1).val) : win0_2.fill (grid0.coords t) d (iblk m c 2 t) q = V m c main_arg2 j := by
  have hx : ∀ a, (q a).val < win0_2.xsize (grid0.coords t) a := fun a => by
    match a with
    | ⟨0, _⟩ => exact Nat.lt_of_lt_of_eq hq (congrFun (xsize_2 t) 0).symm
    | ⟨1, _⟩ => exact Nat.lt_of_lt_of_eq (q 1).isLt (congrFun (xsize_2 t) 1).symm
  have he : ∀ a, win0_2.index t a * win0_2.size a + (q a).val = (j a).val := fun a => by
    match a with
    | ⟨0, _⟩ => exact (congrArg (· * 768 + (q 0).val) (congrFun (idx_2 t) 0)).trans h0
    | ⟨1, _⟩ => exact (congrArg (· * 12544 + (q 1).val) (congrFun (idx_2 t) 1)).trans ((at_zero _ _).trans h1)
  refine (fill_at win0_2 (grid0.coords t) d (iblk m c 2 t) q hx).trans ?_
  exact congrArg (V m c main_arg2) (funext fun a => Fin.ext ((win0_2.rect_emb_val t _ a).trans (he a)))

/-- The same of the columns' scales. -/
theorem fill_3 (c : Dev nD) (t : Fin cfg0.N) (d : S1x768.Idx → EReal) (q : S1x768.Idx) (j : S1x6784.Idx)
    (hq : (q 1).val < win0_4.xsize (grid0.coords t) 1) (h0 : (q 0).val = (j 0).val)
    (h1 : win0_4.index t 1 * 768 + (q 1).val = (j 1).val) :
    win0_3.fill (grid0.coords t) d (iblk m c 3 t) q = V m c main_v2 j := by
  have hx : ∀ a, (q a).val < win0_3.xsize (grid0.coords t) a := fun a => by
    match a with
    | ⟨0, _⟩ => exact Nat.lt_of_lt_of_eq (q 0).isLt (congrFun (xsize_3 t) 0).symm
    | ⟨1, _⟩ => exact Nat.lt_of_lt_of_eq hq (congrFun (xsize_3 t) 1).symm
  have he : ∀ a, win0_3.index t a * win0_3.size a + (q a).val = (j a).val := fun a => by
    match a with
    | ⟨0, _⟩ => exact (congrArg (· * 1 + (q 0).val) (congrFun (idx_3 t) 0)).trans ((at_zero _ _).trans h0)
    | ⟨1, _⟩ => exact (congrArg (· * 768 + (q 1).val) (congrFun (idx_3 t) 1)).trans h1
  refine (fill_at win0_3 (grid0.coords t) d (iblk m c 3 t) q hx).trans ?_
  exact congrArg (V m c main_v2) (funext fun a => Fin.ext ((win0_3.rect_emb_val t _ a).trans (he a)))

/-- What the body stores at point `t`, on the columns inside the array, whatever fills the blocks out past the arrays' ends:
    the scaled product's block. -/
theorem cut_pay (c : Dev nD) (t : Fin cfg0.N) (d2 : S768x12544.Idx → EReal) (d3 : S1x768.Idx → EReal) :
    win0_4.cut (grid0.coords t) (k0_pay1 (F := Ideal) (iblk m c 0 t) (win0_2.fill (grid0.coords t) d2 (iblk m c 2 t))
      (iblk m c 1 t) (win0_3.fill (grid0.coords t) d3 (iblk m c 3 t))) = gblk m c t := by
  funext y
  have r0 := win0_4.rect_emb_val t y 0
  have r1 := win0_4.rect_emb_val t y 1
  have x0 : ∀ k : Fin 12544, iblk m c 0 t (ix2 (win0_4.xinj (grid0.coords t) y 0) k)
      = V m c main_v0 (ix2 ((win0_4.rect t).emb y 0) k) := fun k =>
    iblk_0 m c t _ _ fun a => by
      rw [idx_0]
      match a with
      | ⟨0, _⟩ => exact r0.symm
      | ⟨1, _⟩ => exact at_zero _ _
  have x1 : iblk m c 1 t (ix2 (win0_4.xinj (grid0.coords t) y 0) 0)
      = V m c main_v1 (ix2 ((win0_4.rect t).emb y 0) 0) :=
    iblk_1 m c t _ _ fun a => by
      rw [idx_1]
      match a with
      | ⟨0, _⟩ => exact r0.symm
      | ⟨1, _⟩ => exact at_zero _ _
  have w2 : ∀ k : Fin 12544, win0_2.fill (grid0.coords t) d2 (iblk m c 2 t) (ix2 (win0_4.xinj (grid0.coords t) y 1) k)
      = V m c main_arg2 (ix2 ((win0_4.rect t).emb y 1) k) := fun k =>
    fill_2 m c t d2 _ _ (y 1).isLt r1.symm rfl
  have w3 : win0_3.fill (grid0.coords t) d3 (iblk m c 3 t) (ix2 0 (win0_4.xinj (grid0.coords t) y 1))
      = V m c main_v2 (ix2 0 ((win0_4.rect t).emb y 1)) :=
    fill_3 m c t d3 _ _ (y 1).isLt rfl r1.symm
  exact (pay_at _ _ _ _ (win0_4.xinj (grid0.coords t) y)).trans (congrArg₂ (· * ·) (congrArg₂ (· * ·)
    (Finset.sum_congr rfl fun k _ => congrArg₂ (· * ·) (x0 k) (w2 k)) x1) w3)

/-! ## The proof data -/

/-- The proof data: the arrays as the region finds them; after the body at point `t` each input's buffer at its block and the
    result's at the scaled product's block, each filled out with zero past its array's end. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => (0 : EReal)) (iblk m c 2 t)
    | ⟨3, _⟩ => win0_3.fill (grid0.coords t) (fun _ => (0 : EReal)) (iblk m c 3 t)
    | ⟨4, _⟩ => win0_4.fill (grid0.coords t) (fun _ => (0 : EReal)) (gblk m c t)
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- What the body leaves in each staging buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = win0_2.fill (grid0.coords t) (fun _ => (0 : EReal)) (iblk m c 2 t) := by dsimp only [dats]
theorem after_3 (c : Dev nD) (t : Fin cfg0.N) :
    (dats m 0 c).after 3 t = win0_3.fill (grid0.coords t) (fun _ => (0 : EReal)) (iblk m c 3 t) := by dsimp only [dats]
theorem after_4 (c : Dev nD) (t : Fin cfg0.N) :
    (dats m 0 c).after 4 t = win0_4.fill (grid0.coords t) (fun _ => (0 : EReal)) (gblk m c t) := by dsimp only [dats]

/-- What the body finds in the inputs' staging buffers: the rows' block and their scales whole, -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- the weights' block and the columns' scales on the part inside the array, anything past its end. -/
theorem before_2 (c : Dev nD) (t : Fin cfg0.N) (d) :
    (dats m 0 c).before 2 t d = win0_2.fill (grid0.coords t) d (iblk m c 2 t) := by
  unfold Dat.before; rw [if_pos (fetch0_2 t)]; rfl
theorem before_3 (c : Dev nD) (t : Fin cfg0.N) (d) :
    (dats m 0 c).before 3 t d = win0_3.fill (grid0.coords t) d (iblk m c 3 t) := by
  unfold Dat.before; rw [if_pos (fetch0_3 t)]; rfl

/-! ## The body -/

/-- The result's one store covers its staging buffer. -/
theorem cover_4 (p0 : Vec Ideal S1024x768 .bf16) (y : S1024x768.Idx) :
    ∃ pc ∈ ([⟨Rect.unit (s := S1024x768) ![0, 0] S1024x768.size inb_S1024x768_S1024x768_0_0, p0⟩] :
      List (View.Piece (Elt Ideal) S1024x768 .bf16)), y ∈ pc.1.set :=
  View.cover_of_tiled [⟨Rect.unit (s := S1024x768) ![0, 0] S1024x768.size inb_S1024x768_S1024x768_0_0, p0⟩] S1024x768.size (by rfl) y

/-- Two zero offsets are the constant zero. -/
theorem off_zero : (![0, 0] : Fin 2 → Nat) = fun _ => 0 := funext fun a => by fin_cases a <;> rfl

set_option maxHeartbeats 1000000 in
/-- The body on whole staging buffers, the inputs' at read contents and the result's at anything, ends with the inputs' as they
    were and the result's at the payload of the four. -/
theorem sound_kernel (c : Dev nD) (E : Set ℕ) (i : grid0.Coords)
    (arg2 : Memref sig .tc .vmem S1024x12544 .fp8e4m3) (harg2 : arg2.IsWhole)
    (arg3 : Memref sig .tc .vmem S1024x1 .f32) (harg3 : arg3.IsWhole)
    (arg4 : Memref sig .tc .vmem S768x12544 .fp8e4m3) (harg4 : arg4.IsWhole)
    (arg5 : Memref sig .tc .vmem S1x768 .f32) (harg5 : arg5.IsWhole)
    (arg6 : Memref sig .tc .vmem S1024x768 .bf16) (harg6 : arg6.IsWhole)
    (x : Vec Ideal S1024x12544 .fp8e4m3) (xs : Vec Ideal S1024x1 .f32) (w : Vec Ideal S768x12544 .fp8e4m3)
    (ws : Vec Ideal S1x768 .f32) (K : PUnit → sProp 𝕄) :
    iprop(owns (c : Thread nD τ) arg2 fullShare x ∗ owns (c : Thread nD τ) arg3 fullShare xs
        ∗ owns (c : Thread nD τ) arg4 fullShare w ∗ owns (c : Thread nD τ) arg5 fullShare ws
        ∗ (∃ d, owns (c : Thread nD τ) arg6 fullShare d)
        ∗ (iprop(owns (c : Thread nD τ) arg2 fullShare x ∗ owns (c : Thread nD τ) arg3 fullShare xs
            ∗ owns (c : Thread nD τ) arg4 fullShare w ∗ owns (c : Thread nD τ) arg5 fullShare ws
            ∗ owns (c : Thread nD τ) arg6 fullShare (k0_pay1 (F := Ideal) x w xs ws)) -∗ K ⟨⟩))
      ⊢ wp frame (wpE (defs₀ (F := Ideal)) Variants.none c none) E
          (cc0__linear_kernel i arg2 harg2 arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover_4 _)).trans ?_
  rw [View.canon_unit_zero off_zero]
  refine (congr (congr (congr (congrArg (k0_pay1 (F := Ideal)) ?_) ?_) ?_) ?_)
  all_goals exact View.ld_unit_zero off_zero _ _

/-- What a point's body is given: the invariant, what the core owes, the inputs' staging buffers at what their fetches left
    and the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it gives back: the last three buffers stated on the part inside their arrays only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t))))
    ∗ (∃ d, owns (c : Thread nD τ) (st0_3 t) fullShare
        (win0_3.fill (grid0.coords t) d (win0_3.cut (grid0.coords t) ((dats m 0 c).after 3 t))))
    ∗ (∃ d, owns (c : Thread nD τ) (st0_4 t) fullShare
        (win0_4.fill (grid0.coords t) d (win0_4.cut (grid0.coords t) ((dats m 0 c).after 4 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, Window.cut_fill, Window.cut_fill, Window.cut_fill]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t)
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  iexists _
  rw [← cut_pay m c t d2 d3, Window.fill_cut]
  iexact H4

/-- The body table's row at point `t` is the body at that point's staging buffers. -/
theorem defs₀_row (t : Fin cfg0.N) :
    defs₀ (F := Ideal) .tc cfg0.body (cfg0.bodyArgs t (cfg0.slots t)) = bodyAt0 t := by
  unfold defs₀; rw [Defs.onTc_tc]

/-- The library's body obligation, the windows that overhang stated on the part inside their arrays. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: every execution ends, with every array at what the proof data computes and every semaphore counter at zero. -/
theorem run_main : θ_run defs (onTc (τ := τ) (main (F := Ideal))) (s₀ m ρ)
    (fun r => Pipeline.FramePost cfgs (dats m) 0 (Pipeline.afterTail₀ cfgs (dats m) 0 (V0 m) [hostOps1]) r
      ∧ r.2.sem = fun _ => 0) :=
  Pipeline.θ_run_frame_around (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)
    (hQ' := fun _ h => h)

/-! ## The arrays at the end -/

/-- The region's result array holds the scaled product. -/
theorem final (c : Dev nD) : (dats m 0 c).arrAt 4 cfg0.N = GV m c := by
  refine (dats m 0 c).arrAt_eq_of_covers 4 _ (by decide +kernel) fun t hf y => ?_
  rw [after_4]
  exact win0_4.fill_xinj (grid0.coords t) (fun _ => (0 : EReal)) (gblk m c t) y

/-- Every execution ends with the four arguments as launched and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelValue

end
-- ==== Proof.Reference.lean ====
/-
  What the reference computes over the extended reals: element (b, s, n) of its result is the product of row (b, s) of the
  first argument with row n of the third, scaled by the row's scale and then by the column's.
-/
module

public import proofs.«01_k».proof.Proof.Gen.ReferenceIdeal.Frame
public import Idealize.ShloMosaic.Lib.Claim
public import Idealize.ShloMosaic.Lib.Pointwise
public import Idealize.ShloMosaic.Lib.Pipeline.ValueKit

@[expose] public section

set_option maxRecDepth 16384

noncomputable section

namespace Cert.ReferenceValue

open Cert.ReferenceIdeal Cert.ReferenceIdeal.Gen
open Idealize.ShloMosaic Idealize.ShloMosaic.TcCoe Idealize.SL.Sem

/-- The product of `x`'s row (b, s) with `w`'s row n, scaled by the row's scale and by the column's. -/
def value (x : S3x4096x12544.Idx → EReal) (xs : S3x4096x1.Idx → EReal) (w : S6784x12544.Idx → EReal) (ws : S6784.Idx → EReal) :
    S3x4096x6784.Idx → EReal := fun i =>
  (∑ k : Fin 12544, x (ix3 (i 0) (i 1) k) * w (ix2 (i 2) k)) * xs (ix3 (i 0) (i 1) 0) * ws (ix1 (i 2))

/-- Element (b, s, n) of what the reference stores. -/
theorem pay_apply (x : Vec Ideal S3x4096x12544 .fp8e4m3) (w : Vec Ideal S6784x12544 .fp8e4m3)
    (xs : Vec Ideal S3x4096x1 .f32) (ws : Vec Ideal S6784 .f32) (b : Fin 3) (s : Fin 4096) (n : Fin 6784) :
    k0_pay1 (F := Ideal) x w xs ws (ix3 b s n)
      = (∑ k : Fin 12544, x (ix3 b s k) * w (ix2 n k)) * xs (ix3 b s 0) * ws (ix1 n) := by
  unfold k0_pay1
  pointwise

/-- The same at any index. -/
theorem pay_eq (x : Vec Ideal S3x4096x12544 .fp8e4m3) (w : Vec Ideal S6784x12544 .fp8e4m3)
    (xs : Vec Ideal S3x4096x1 .f32) (ws : Vec Ideal S6784 .f32) : k0_pay1 (F := Ideal) x w xs ws = value x xs w ws := by
  funext q
  rw [eq_ix3 q]
  exact pay_apply x w xs ws (q 0) (q 1) (q 2)

variable (m : (ℓ : Loc nD τ sig) → Buf (Elt Ideal) ℓ) (ρ : Dev nD → PrngReg)

/-! ## The one point's blocks are the whole arrays -/

/-- A block at index 0 begins at its array's start. -/
theorem at_zero (n k : Nat) : 0 * n + k = k := by omega

theorem iblk_0 (c : Dev nD) (t : Fin cfg0.N) : iblk m c 0 t = m ((c : Thread nD τ).loc main_arg0) :=
  funext fun q => congrArg (m ((c : Thread nD τ).loc main_arg0))
    (funext fun a => Fin.ext ((win0_0.rect_emb_val t q a).trans (at_zero _ _)))
theorem iblk_1 (c : Dev nD) (t : Fin cfg0.N) : iblk m c 1 t = m ((c : Thread nD τ).loc main_arg1) :=
  funext fun q => congrArg (m ((c : Thread nD τ).loc main_arg1))
    (funext fun a => Fin.ext ((win0_1.rect_emb_val t q a).trans (at_zero _ _)))
theorem iblk_2 (c : Dev nD) (t : Fin cfg0.N) : iblk m c 2 t = m ((c : Thread nD τ).loc main_arg2) :=
  funext fun q => congrArg (m ((c : Thread nD τ).loc main_arg2))
    (funext fun a => Fin.ext ((win0_2.rect_emb_val t q a).trans (at_zero _ _)))
theorem iblk_3 (c : Dev nD) (t : Fin cfg0.N) : iblk m c 3 t = m ((c : Thread nD τ).loc main_arg3) :=
  funext fun q => congrArg (m ((c : Thread nD τ).loc main_arg3))
    (funext fun a => Fin.ext ((win0_3.rect_emb_val t q a).trans (at_zero _ _)))

/-! ## The result -/

/-- What the reference's result array holds at the end. -/
theorem final (c : Dev nD) : (dats m 0 c).arrAt 4 cfg0.N
    = value (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [iblk_0, iblk_1, iblk_2, iblk_3]
  refine (congrFun (pay_eq _ _ _ _) y).trans (congrArg (value _ _ _ _) ?_)
  exact funext fun a => Fin.ext ((win0_4.rect_emb_val t y a).trans (at_zero _ _)).symm

/-- Every execution of the reference ends with its result at `value` of the arguments and the arguments as launched. -/
theorem run : θ_run defs (onTc (τ := τ) (main (F := Ideal))) ⟨m, fun _ => 0, ρ⟩ (fun r => ∀ c : Dev nD,
      r.2.mem ((c.tc : Thread nD τ).loc main_v0)
        = value (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.out_eq c 4).trans (final m c), h.2 c⟩)
    (θ_run_and (run_main m ρ) (unchanged m ρ))

end Cert.ReferenceValue

end
-- ==== Proof.Equation.lean ====
/-
  The kernel's result is the reference's value: the rows of the flattened array are the pairs (b, s) in row-major order, so
  row b * 4096 + s of the scaled product, at column n, is the reference's element (b, s, n).
-/
module

public import proofs.«01_k».proof.Proof.IdealRun
public import proofs.«01_k».proof.Proof.Reference

@[expose] public section

set_option maxRecDepth 16384

noncomputable section

namespace Cert.KernelValue

open Cert.KernelIdeal Cert.KernelIdeal.Gen
open Idealize.ShloMosaic Idealize.ShloMosaic.TcCoe Idealize.SL.Sem
open Cert.ReferenceValue (value)

/-- The row of the flattened array at which the pair (b, s) lies. -/
def row (b : Fin 3) (s : Fin 4096) : Fin 12288 := ⟨b.val * 4096 + s.val, by omega⟩

/-- The flattened `x` at row (b, s). -/
theorem cast_x (x : S3x4096x12544.Idx → EReal) (b : Fin 3) (s : Fin 4096) (k : Fin 12544) :
    shapeCast S12288x12544 x shapeCasts_S3x4096x12544_S12288x12544 (ix2 (row b s) k) = x (ix3 b s k) :=
  shapeCast_apply _ _ _ _ ((Shape.rowMajor_val_three _).trans
    (Shape.rowMajor_val_two (d := ![12288, 12544]) (ix2 (row b s) k)).symm)

/-- The flattened row scales at row (b, s). -/
theorem cast_xs (xs : S3x4096x1.Idx → EReal) (b : Fin 3) (s : Fin 4096) :
    shapeCast S12288x1 xs shapeCasts_S3x4096x1_S12288x1 (ix2 (row b s) 0) = xs (ix3 b s 0) :=
  shapeCast_apply _ _ _ _ ((Shape.rowMajor_val_three _).trans
    (Shape.rowMajor_val_two (d := ![12288, 1]) (ix2 (row b s) 0)).symm)

/-- The column scales as one row. -/
theorem cast_ws (ws : S6784.Idx → EReal) (n : Fin 6784) :
    shapeCast S1x6784 ws shapeCasts_S6784_S1x6784 (ix2 0 n) = ws (ix1 n) :=
  shapeCast_apply _ _ _ _ ((Shape.rowMajor_val_one _).trans
    ((Shape.rowMajor_val_two (d := ![1, 6784]) (ix2 0 n)).trans (at_zero 6784 n.val)).symm)

/-- The flattened result at (b, s, n). -/
theorem cast_y (y : S12288x6784.Idx → EReal) (b : Fin 3) (s : Fin 4096) (n : Fin 6784) :
    shapeCast S3x4096x6784 y shapeCasts_S12288x6784_S3x4096x6784 (ix3 b s n) = y (ix2 (row b s) n) :=
  shapeCast_apply _ _ _ _ ((Shape.rowMajor_val_two _).trans
    (Shape.rowMajor_val_three (d := ![3, 4096, 6784]) (ix3 b s n)).symm)

/-- The scaled product of the flattened arguments, shaped back, is the reference's value. -/
theorem G_cast (x : S3x4096x12544.Idx → EReal) (xs : S3x4096x1.Idx → EReal) (w : S6784x12544.Idx → EReal)
    (ws : S6784.Idx → EReal) :
    shapeCast S3x4096x6784 (G (shapeCast S12288x12544 x shapeCasts_S3x4096x12544_S12288x12544)
        (shapeCast S12288x1 xs shapeCasts_S3x4096x1_S12288x1) w (shapeCast S1x6784 ws shapeCasts_S6784_S1x6784))
      shapeCasts_S12288x6784_S3x4096x6784 = value x xs w ws := by
  funext q
  rw [eq_ix3 q]
  refine (cast_y _ (q 0) (q 1) (q 2)).trans ?_
  exact congrArg₂ (· * ·) (congrArg₂ (· * ·) (Finset.sum_congr rfl fun k _ => congrArg (· * _) (cast_x x (q 0) (q 1) k))
    (cast_xs xs (q 0) (q 1))) (cast_ws ws (q 2))

variable (m : (ℓ : Loc nD τ sig) → Buf (Elt Ideal) ℓ) (ρ : Dev nD → PrngReg)

/-- What the region finds in the flattened arguments. -/
theorem V_v0 (c : Dev nD) : V m c main_v0
    = shapeCast S12288x12544 (m ((c : Thread nD τ).loc main_arg0)) shapeCasts_S3x4096x12544_S12288x12544 := by
  simp only [V, V0, List.flatten_cons, List.flatten_nil, List.append_nil, hostOps0, StableHlo.after_cons,
    StableHlo.after_nil]
  rw [StableHlo.reshape_result_ne, StableHlo.reshape_result_ne, StableHlo.reshape_result]
  · rfl
  all_goals decide
theorem V_v1 (c : Dev nD) : V m c main_v1
    = shapeCast S12288x1 (m ((c : Thread nD τ).loc main_arg1)) shapeCasts_S3x4096x1_S12288x1 := by
  simp only [V, V0, List.flatten_cons, List.flatten_nil, List.append_nil, hostOps0, StableHlo.after_cons,
    StableHlo.after_nil]
  rw [StableHlo.reshape_result_ne, StableHlo.reshape_result, StableHlo.reshape_result_ne]
  · rfl
  all_goals decide
theorem V_v2 (c : Dev nD) : V m c main_v2
    = shapeCast S1x6784 (m ((c : Thread nD τ).loc main_arg3)) shapeCasts_S6784_S1x6784 := by
  simp only [V, V0, List.flatten_cons, List.flatten_nil, List.append_nil, hostOps0, StableHlo.after_cons,
    StableHlo.after_nil]
  rw [StableHlo.reshape_result, StableHlo.reshape_result_ne, StableHlo.reshape_result_ne]
  · rfl
  all_goals decide

/-- The lines after the region leave the kernel's result at the reference's value of the arguments. -/
theorem tail_v4 (c : Dev nD) : Pipeline.afterTail₀ cfgs (dats m) 0 (V0 m) [hostOps1] c main_v4
    = value (m ((c : Thread nD τ).loc main_arg0)) (m ((c : Thread nD τ).loc main_arg1))
        (m ((c : Thread nD τ).loc main_arg2)) (m ((c : Thread nD τ).loc main_arg3)) := by
  unfold Pipeline.afterTail₀
  rw [← G_cast, ← V_v0 m c, ← V_v1 m c, ← V_v2 m c, ← V_main_arg2 m c]
  simp only [List.flatten_cons, List.flatten_nil, List.append_nil, hostOps1, StableHlo.after_cons, StableHlo.after_nil]
  rw [StableHlo.reshape_result]
  have h : Pipeline.withArrays (cfgs 0).spec c (V0 m c) (fun w => (dats m 0 c).arrAt w (cfgs 0).N) (Proc.tc.devRef main_v3)
      = GV m c := (Pipeline.withArrays_arr spec0 launch0.win.arr_inj c (V0 m c) (fun w => (dats m 0 c).arrAt w cfg0.N) 4).trans
    (final m c)
  exact congrArg (shapeCast S3x4096x6784 · shapeCasts_S12288x6784_S3x4096x6784) h

/-- Every execution of the kernel ends with its result at the reference's value of the arguments and the arguments as
    launched. -/
theorem run : θ_run defs (onTc (τ := τ) (main (F := Ideal))) ⟨m, fun _ => 0, ρ⟩ (fun r => ∀ c : Dev nD,
      r.2.mem ((c.tc : Thread nD τ).loc main_v4)
        = value (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.1.rest_eq c main_v4 (by decide)).trans (tail_v4 m c), h.2.1 c⟩)
    (θ_run_and (run_main m ρ) (frame m ρ))

end Cert.KernelValue

end
-- ==== Proof.lean ====
/-
  The certificate: the kernel, at its own word formats and over the extended reals, and the reference run to the end leaving
  their arguments as they found them and every semaphore counter at zero; and over the extended reals the kernel's result is
  the reference's, element for element, for every memory.
-/
module

public import proofs.«01_k».proof.Defs
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem

/-- Over the extended reals the kernel and the reference end with the same result: `Cert.ReferenceValue.value` of the
    arguments. -/
theorem algebraic [Cert.KernelIdeal.Facts] [Cert.ReferenceIdeal.Facts] : Cert.algebraic_KernelIdeal_ReferenceIdeal :=
  fun m g m' g' _ heq =>
    ⟨fun c => Cert.ReferenceValue.value
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      Cert.KernelValue.run m g,
      (θ_run Cert.ReferenceIdeal.defs _ _).mono (fun r h c => ⟨(h c).1.trans
          (congr (congr (congr (congrArg Cert.ReferenceValue.value (heq c).1) (heq c).2.1) (heq c).2.2.1) (heq c).2.2.2), (h c).2⟩)
        (Cert.ReferenceValue.run m' g')⟩

/-- Every claim of the certificate. -/
theorem claim : Cert.Claim := ⟨Cert.Kernel.Gen.facts, Cert.KernelIdeal.Gen.facts, Cert.ReferenceIdeal.Gen.facts,
  fun m g _ => Cert.KernelFrame.frame m g, fun m g _ => Cert.KernelValue.frame m g,
  fun m g _ => Cert.ReferenceIdeal.Gen.frame m g, trivial, algebraic⟩

end Cert.Proof

end
